-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096 : Shape := ⟨1, ![4096]⟩
abbrev S1x4096 : Shape := ⟨2, ![1, 4096]⟩
abbrev S4096x1 : Shape := ⟨2, ![4096, 1]⟩
abbrev S8x128x4096 : Shape := ⟨3, ![8, 128, 4096]⟩
abbrev S16x128x4096 : Shape := ⟨3, ![16, 128, 4096]⟩
abbrev S8 : Shape := ⟨1, ![8]⟩
abbrev S16 : Shape := ⟨1, ![16]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S1x1x4096 : Shape := ⟨3, ![1, 1, 4096]⟩
abbrev S1x1x1 : Shape := ⟨3, ![1, 1, 1]⟩
abbrev S128 : Shape := ⟨1, ![128]⟩
abbrev S128x1 : Shape := ⟨2, ![128, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x1, .f32⟩
  | .local _ .vmem, ⟨0, _⟩ => ⟨S1x4096, .f32⟩
  | .local _ .vmem, ⟨1, _⟩ => ⟨S4096x1, .f32⟩
  | .local _ .vmem, ⟨2, _⟩ => ⟨S8x128x4096, .f32⟩
  | .local _ .vmem, ⟨3, _⟩ => ⟨S16x128x4096, .f32⟩
  | .local _ .vmem, ⟨4, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Eqv.lean ====
/- The two programs printed from the kernel, `Cert.Kernel` and `Cert.KernelIdeal`, are one program: the same entry
   point and the same table of kernels, at any reading of the floats. What is proved of one therefore holds of the other. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.ShloMosaic.TcCoe Idealize.SL.Sem

variable {F : FTy → Type} [FloatOps F]

set_option maxRecDepth 65536 in
/-- The entry points are the same program. -/
theorem main_eq : Cert.Kernel.main (F := F) = Cert.KernelIdeal.main (F := F) := rfl

/-- The kernel bodies the two tables hold are the same, entry by entry. -/
theorem defs0_eq : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- The tables with their pipelines around the bodies are the same. -/
theorem defs_eq : Cert.Kernel.defs (F := F) = Cert.KernelIdeal.defs (F := F) := by
  unfold Cert.Kernel.defs Cert.KernelIdeal.defs
  rw [defs0_eq]; rfl

end Cert.Proof
end
-- ==== Proof.Slots.lean ====
/- The buffers the kernel's body works on, and the slots of its two rings as it slices them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The buffers the body addresses, whole -/

/-- The left factor `x`, in HBM. -/
abbrev xM : Memref sig .tc .hbm S4096x4096 .f32 := Memref.whole main_arg0
/-- The right factor `W`, in HBM. -/
abbrev wM : Memref sig .tc .hbm S4096x4096 .f32 := Memref.whole main_arg1
/-- The ring of eight slots the blocks of `W` are copied into. -/
abbrev wRing : Memref sig .tc .vmem S8x128x4096 .f32 := Memref.whole cc0_scratch0
/-- The ring of sixteen slots the blocks of `x` are copied into. -/
abbrev xRing : Memref sig .tc .vmem S16x128x4096 .f32 := Memref.whole cc0_scratch1
/-- The row the column sums of `W` are accumulated in. -/
abbrev sumM : Memref sig .tc .vmem S1x4096 .f32 := Memref.whole cc0_scratch2

/-! ## The slots of the two rings, as the body slices and squeezes them -/

/-- Slot `k` of the ring for `W`. -/
def wSlot (k : ℕ) (h : ∀ a, (![k, 0, 0] : Fin 3 → ℕ) a + S1x128x4096.size a ≤ S8x128x4096.size a) :
    Memref sig .tc .vmem S128x4096 .f32 :=
  (wRing.slice (Rect.unit (s := S8x128x4096) ![k, 0, 0] S1x128x4096.size h) (fun _ => rfl)).squeeze S128x4096
    squeezes_S1x128x4096_S128x4096
/-- Slot `k` of the ring for `x`. -/
def xSlot (k : ℕ) (h : ∀ a, (![k, 0, 0] : Fin 3 → ℕ) a + S1x128x4096.size a ≤ S16x128x4096.size a) :
    Memref sig .tc .vmem S128x4096 .f32 :=
  (xRing.slice (Rect.unit (s := S16x128x4096) ![k, 0, 0] S1x128x4096.size h) (fun _ => rfl)).squeeze S128x4096
    squeezes_S1x128x4096_S128x4096

/-- The body's spelling of a slot of the ring for `W` is the slot, -/
@[sl_canon] theorem wSlot_spelt (k : ℕ) (h hs) :
    (wRing.slice (Rect.unit (s := S8x128x4096) ![k, 0, 0] S1x128x4096.size h) hs).squeeze S128x4096
      squeezes_S1x128x4096_S128x4096 = wSlot k h := rfl
/-- and of the ring for `x`. -/
@[sl_canon] theorem xSlot_spelt (k : ℕ) (h hs) :
    (xRing.slice (Rect.unit (s := S16x128x4096) ![k, 0, 0] S1x128x4096.size h) hs).squeeze S128x4096
      squeezes_S1x128x4096_S128x4096 = xSlot k h := rfl

/-- Every slot number below 8 is a slot of the ring for `W`, -/
theorem wInb (s : Fin 8) : ∀ a, (![s.val, 0, 0] : Fin 3 → ℕ) a + S1x128x4096.size a ≤ S8x128x4096.size a := by
  have := s.isLt
  intro a; fin_cases a
  · show s.val + 1 ≤ 8; omega
  · show 0 + 128 ≤ 128; omega
  · show 0 + 4096 ≤ 4096; omega
/-- and every slot number below 16 one of the ring for `x`. -/
theorem xInb (s : Fin 16) : ∀ a, (![s.val, 0, 0] : Fin 3 → ℕ) a + S1x128x4096.size a ≤ S16x128x4096.size a := by
  have := s.isLt
  intro a; fin_cases a
  · show s.val + 1 ≤ 16; omega
  · show 0 + 128 ≤ 128; omega
  · show 0 + 4096 ≤ 4096; omega

section
variable (c : Dev nD)

/-- Memref `M`'s contents type on core `c`. -/
abbrev Cont (c : Dev nD) {sp : Space} {S : Shape} {e : EltTy} (M : Memref sig .tc sp S e) : Type := Buf (Elt F) (M.view.loc (c : Thread nD τ))
/-- Memref `M`'s buffer held whole at `f`. -/
abbrev held (c : Dev nD) {sp : Space} {S : Shape} {e : EltTy} (M : Memref sig .tc sp S e) (f : Cont (F := F) c M) : sProp 𝕄 :=
  M.view.loc (c : Thread nD τ) ↦{fullShare} f
/-- Memref `M`'s own elements held, at some contents. -/
abbrev room (c : Dev nD) {sp : Space} {S : Shape} {e : EltTy} (M : Memref sig .tc sp S e) : sProp 𝕄 :=
  iprop(∃ f : Cont (F := F) c M, M.view.loc (c : Thread nD τ) ↦[M.view.set]{fullShare} f)
/-- DMA semaphore `k`'s counter at zero. -/
abbrev cell (c : Dev nD) (k : Fin 26) : sProp 𝕄 := semVal ((c : Thread nD τ), SemLoc.dma k) 0

end

end Cert.KernelIdeal.Hand
end
-- ==== Proof.Run.lean ====
/- The kernel's body run from beginning to end, once, on whatever staging buffers it is given: it starts 64 copies into the
   two rings' slots, waits for each before it reads the slot, and leaves every counter at zero. The stores it makes into
   the result are collected in a list, which Proof/Blocks.lean says what it is. -/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The slots of the ring for `W`, each at some contents. -/
abbrev wSlots (c : Dev nD) : sProp 𝕄 :=
  iprop(room (F := F) c (wSlot 0 (wInb 0)) ∗ room (F := F) c (wSlot 1 (wInb 1)) ∗ room (F := F) c (wSlot 2 (wInb 2))
    ∗ room (F := F) c (wSlot 3 (wInb 3)) ∗ room (F := F) c (wSlot 4 (wInb 4)) ∗ room (F := F) c (wSlot 5 (wInb 5))
    ∗ room (F := F) c (wSlot 6 (wInb 6)) ∗ room (F := F) c (wSlot 7 (wInb 7)))
/-- The slots of the ring for `x`, each at some contents. -/
abbrev xSlots (c : Dev nD) : sProp 𝕄 :=
  iprop(room (F := F) c (xSlot 0 (xInb 0)) ∗ room (F := F) c (xSlot 1 (xInb 1)) ∗ room (F := F) c (xSlot 2 (xInb 2))
    ∗ room (F := F) c (xSlot 3 (xInb 3)) ∗ room (F := F) c (xSlot 4 (xInb 4)) ∗ room (F := F) c (xSlot 5 (xInb 5))
    ∗ room (F := F) c (xSlot 6 (xInb 6)) ∗ room (F := F) c (xSlot 7 (xInb 7)) ∗ room (F := F) c (xSlot 8 (xInb 8))
    ∗ room (F := F) c (xSlot 9 (xInb 9)) ∗ room (F := F) c (xSlot 10 (xInb 10)) ∗ room (F := F) c (xSlot 11 (xInb 11))
    ∗ room (F := F) c (xSlot 12 (xInb 12)) ∗ room (F := F) c (xSlot 13 (xInb 13)) ∗ room (F := F) c (xSlot 14 (xInb 14))
    ∗ room (F := F) c (xSlot 15 (xInb 15)))
/-- The counters the body's own copies are counted on, at zero: one for each slot of the two rings. -/
abbrev cells (c : Dev nD) : sProp 𝕄 :=
  iprop(cell (F := F) c 2 ∗ cell (F := F) c 3 ∗ cell (F := F) c 4 ∗ cell (F := F) c 5 ∗ cell (F := F) c 6 ∗ cell (F := F) c 7 ∗ cell (F := F) c 8 ∗ cell (F := F) c 9
    ∗ cell (F := F) c 10 ∗ cell (F := F) c 11 ∗ cell (F := F) c 12 ∗ cell (F := F) c 13 ∗ cell (F := F) c 14 ∗ cell (F := F) c 15 ∗ cell (F := F) c 16 ∗ cell (F := F) c 17
    ∗ cell (F := F) c 18 ∗ cell (F := F) c 19 ∗ cell (F := F) c 20 ∗ cell (F := F) c 21 ∗ cell (F := F) c 22 ∗ cell (F := F) c 23 ∗ cell (F := F) c 24 ∗ cell (F := F) c 25)

/-- What the body is handed besides its two windows and takes back: the row of column sums and every slot of the two
    rings at some contents, the counters the copies are counted on at zero, the two factors whole. -/
abbrev around (c : Dev nD) (fx : Cont (F := F) c xM) (fw : Cont (F := F) c wM) : sProp 𝕄 :=
  iprop((∃ d, owns (c : Thread nD τ) sumM fullShare d) ∗ wSlots (F := F) c ∗ xSlots (F := F) c ∗ cells (F := F) c
    ∗ held c xM fx ∗ held c wM fw)

set_option maxHeartbeats 20000000 in set_option sl_exec.dmaWindow true in
/-- The body's run: on whole staging memrefs, the row of `b` at `x0` and the result's at anything, from what `around`
    states and back to it, the result's buffer left at the listed pieces written over what it held. -/
def run (c : Dev nD) (arg2 : Memref sig .tc .vmem S1x4096 .f32) (harg2 : arg2.IsWhole)
    (arg3 : Memref sig .tc .vmem S4096x1 .f32) (harg3 : arg3.IsWhole)
    (x0 : Vec F S1x4096 .f32) (fx : Cont (F := F) c xM) (fw : Cont (F := F) c wM) :
    { L : List (View.Piece (Elt F) S4096x1 .f32) //
      ∀ (f1 : Cont (F := F) c arg3) (W : Waits sig Unit) (K : PUnit → sProp 𝕄),
        iprop(owns (c : Thread nD τ) arg2 fullShare x0 ∗ (arg3.view.loc (c : Thread nD τ) ↦[arg3.view.set]{fullShare} f1)
            ∗ around c fx fw ∗ owes (c : Thread nD τ) 0 W
            ∗ (iprop(owns (c : Thread nD τ) arg2 fullShare x0
                ∗ (arg3.view.loc (c : Thread nD τ) ↦[arg3.view.set]{fullShare} arg3.view.writes (Elt F) f1 L)
                ∗ around c fx fw ∗ (∃ W', owes (c : Thread nD τ) 0 W')) -∗ K ⟨⟩))
          ⊢ wp frame (wpE (defs₀ (F := F)) Variants.none c none) Set.univ
              (cc0__body xM (Memref.isWhole_whole _) wM (Memref.isWhole_whole _) arg2 harg2 arg3 harg3 wRing (Memref.isWhole_whole _)
                xRing (Memref.isWhole_whole _) sumM (Memref.isWhole_whole _) cc0_scratch3 cc0_scratch4) K } := by
  refine ⟨?_, fun f1 W K => ?run⟩
  case run =>
    simp only [cc0__body_eq_skeleton]; unfold cc0__body_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold around wSlots xSlots cells owns
    iintro ⟨⟨%f0, %hf0, H0⟩, H1, ⟨⟨%d2, %f2, -, H2⟩, ⟨⟨%w0, HA0⟩, ⟨%w1, HA1⟩, ⟨%w2, HA2⟩, ⟨%w3, HA3⟩, ⟨%w4, HA4⟩, ⟨%w5, HA5⟩, ⟨%w6, HA6⟩, ⟨%w7, HA7⟩⟩, ⟨⟨%x0, HB0⟩, ⟨%x1, HB1⟩, ⟨%x2, HB2⟩, ⟨%x3, HB3⟩, ⟨%x4, HB4⟩, ⟨%x5, HB5⟩, ⟨%x6, HB6⟩, ⟨%x7, HB7⟩, ⟨%x8, HB8⟩, ⟨%x9, HB9⟩, ⟨%x10, HB10⟩, ⟨%x11, HB11⟩, ⟨%x12, HB12⟩, ⟨%x13, HB13⟩, ⟨%x14, HB14⟩, ⟨%x15, HB15⟩⟩, ⟨Hq2, Hq3, Hq4, Hq5, Hq6, Hq7, Hq8, Hq9, Hq10, Hq11, Hq12, Hq13, Hq14, Hq15, Hq16, Hq17, Hq18, Hq19, Hq20, Hq21, Hq22, Hq23, Hq24, Hq25⟩, Hx, Hw⟩, HW, Hk⟩
    obtain rfl := harg2.eq_unread hf0
    sl_exec
    sl_step
    iapply Hk
    sl_close

end Cert.KernelIdeal.Hand

end
-- ==== Proof.Blocks.lean ====
/- The stores the run makes into the result, as a recursion over the block number; they cover the result, so what the
   body leaves there does not depend on what was there before. -/
module

public import proofs.«01_k».proof.Proof.Run
public import Idealize.ShloMosaic.Lib.WholeRead

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

/-! ## The run's pieces, as functions of the block number -/

/-- Block `n` of 128 rows lies inside a factor. -/
theorem blkInb (n : Fin 32) : ∀ a, (![128 * n.val, 0] : Fin 2 → ℕ) a + S128x4096.size a ≤ S4096x4096.size a := by
  have := n.isLt
  intro a; fin_cases a
  · show 128 * n.val + 128 ≤ 4096; omega
  · show 0 + 4096 ≤ 4096; omega

/-- Block `n` of 128 rows lies inside the result. -/
theorem outInb (n : Fin 32) : ∀ a, (![128 * n.val, 0] : Fin 2 → ℕ) a + S128x1.size a ≤ S4096x1.size a := by
  have := n.isLt
  intro a; fin_cases a
  · show 128 * n.val + 128 ≤ 4096; omega
  · show 0 + 1 ≤ 1; omega

section
variable (c : Dev nD) (fx : Cont (F := F) c xM) (fw : Cont (F := F) c wM)

/-- Block `n` of 128 rows of `W`, as a copy brings it. -/
def wBlk (n : Fin 32) : Vec F S128x4096 .f32 :=
  ReadAs.same.apply (View.read (Elt F)
    (wM.slice (Rect.unit (s := S4096x4096) ![128 * n.val, 0] S128x4096.size (blkInb n)) (fun _ => rfl)).view fw)

/-- Block `n` of 128 rows of `x`, as a copy brings it. -/
def xBlk (n : Fin 32) : Vec F S128x4096 .f32 :=
  ReadAs.same.apply (View.read (Elt F)
    (xM.slice (Rect.unit (s := S4096x4096) ![128 * n.val, 0] S128x4096.size (blkInb n)) (fun _ => rfl)).view fx)

/-- What slot `s` of the ring for `W` has received by round `q`, the newest first: in round `q` it takes block `8 q + s`. -/
def wHist (s : Fin 8) : ℕ → List (View.Piece (Elt F) S128x4096 .f32)
  | 0 => [⟨Rect.whole S128x4096, wBlk c fw (Fin.ofNat 32 s.val)⟩]
  | q + 1 => ⟨Rect.whole S128x4096, wBlk c fw (Fin.ofNat 32 (8 * (q + 1) + s.val))⟩ :: wHist s q

/-- What slot `s` of the ring for `x` has received by round `q`, the newest first: in round `q` it takes block `16 q + s`. -/
def xHist (s : Fin 16) : ℕ → List (View.Piece (Elt F) S128x4096 .f32)
  | 0 => [⟨Rect.whole S128x4096, xBlk c fx (Fin.ofNat 32 s.val)⟩]
  | q + 1 => ⟨Rect.whole S128x4096, xBlk c fx (Fin.ofNat 32 (16 * (q + 1) + s.val))⟩ :: xHist s q

/-- What the body loads from slot `s` of the ring for `W` in round `q`. -/
def wLoad (s : Fin 8) (q : ℕ) : Vec F S1x128x4096 .f32 :=
  View.readAt (Elt F) wRing.view (Rect.unit (s := S8x128x4096) ![s.val, 0, 0] S1x128x4096.size (wInb s)).toLoadRect
    ((wSlot s.val (wInb s)).view.writes (Elt F) (wSlot s.val (wInb s)).view.junk (wHist c fw s q))

/-- What the body loads from slot `s` of the ring for `x` in round `q`. -/
def xLoad (s : Fin 16) (q : ℕ) : Vec F S1x128x4096 .f32 :=
  View.readAt (Elt F) xRing.view (Rect.unit (s := S16x128x4096) ![s.val, 0, 0] S1x128x4096.size (xInb s)).toLoadRect
    ((xSlot s.val (xInb s)).view.writes (Elt F) (xSlot s.val (xInb s)).view.junk (xHist c fx s q))

/-- The row of column sums, loaded after the stores `L` into it. -/
def sumLoad (L : List (View.Piece (Elt F) S1x4096 .f32)) : Vec F S1x4096 .f32 :=
  sumM.view.readCov L (Rect.unit (s := S1x4096) ![0, 0] S1x4096.size inb_S1x4096_S1x4096_0_0).toLoadRect

/-- The stores into the row of column sums once blocks `0, …, n` of `W` are summed, the newest first. -/
def sumHist : ℕ → List (View.Piece (Elt F) S1x4096 .f32)
  | 0 => [⟨Rect.unit (s := S1x4096) ![0, 0] S1x4096.size inb_S1x4096_S1x4096_0_0, k0_pay3 (wLoad c fw 0 0)⟩]
  | n + 1 => ⟨Rect.unit (s := S1x4096) ![0, 0] S1x4096.size inb_S1x4096_S1x4096_0_0,
      k0_pay6 (wLoad c fw (Fin.ofNat 8 (n + 1)) ((n + 1) / 8)) (sumLoad (sumHist n))⟩ :: sumHist n

/-- The column sums of `W`, all 32 blocks summed. -/
def colSums : Vec F S1x4096 .f32 := sumLoad (sumHist c fw 31)

/-- The stores into the result of blocks `0, …, n - 1`, the newest first; `s` is the sum of `b`. -/
def outHist (s : F .f32) : ℕ → List (View.Piece (Elt F) S4096x1 .f32)
  | 0 => []
  | n + 1 => ⟨Rect.unit (s := S4096x1) ![128 * (Fin.ofNat 32 n).val, 0] S128x1.size (outInb (Fin.ofNat 32 n)),
      k0_pay81 s (xLoad c fx (Fin.ofNat 16 n) (n / 16)) (colSums c fw)⟩ :: outHist s n

end

set_option maxHeartbeats 4000000 in
/-- The pieces the run leaves in the result are the ones the recursion gives, whatever staging memrefs it ran on. -/
theorem run_pieces (c : Dev nD) (arg2 : Memref sig .tc .vmem S1x4096 .f32) (harg2 : arg2.IsWhole)
    (arg3 : Memref sig .tc .vmem S4096x1 .f32) (harg3 : arg3.IsWhole)
    (x0 : Vec F S1x4096 .f32) (fx : Cont (F := F) c xM) (fw : Cont (F := F) c wM) :
    (run c arg2 harg2 arg3 harg3 x0 fx fw).1
      = outHist c fx fw (k0_pay2 (View.readAt (Elt F) arg2.view
          (Rect.unit (s := S1x4096) ![0, 0] S1x4096.size inb_S1x4096_S1x4096_0_0).toLoadRect (harg2.unread x0))) 32 := rfl

/-- Every row of the result lies in one of the blocks stored. -/
theorem outHist_cover (c : Dev nD) (fx : Cont (F := F) c xM) (fw : Cont (F := F) c wM) (s : F .f32) (n : ℕ) (hn : n ≤ 32)
    (y : S4096x1.Idx) (hy : (y 0).val < 128 * n) : ∃ p ∈ outHist c fx fw s n, y ∈ p.1.set := by
  induction n with
  | zero => omega
  | succ n ih =>
    by_cases h : (y 0).val < 128 * n
    · obtain ⟨p, hp, hm⟩ := ih (by omega) h
      exact ⟨p, List.mem_cons_of_mem _ hp, hm⟩
    · refine ⟨_, List.mem_cons_self, (Rect.mem_set_unit (inb := outInb (Fin.ofNat 32 n))).mpr fun a => ?_⟩
      have e : (Fin.ofNat 32 n).val = n := Nat.mod_eq_of_lt (by omega)
      have h1 : (y 1).val < 1 := (y 1).isLt
      match a with
      | ⟨0, _⟩ => exact ⟨show 128 * (Fin.ofNat 32 n).val ≤ (y 0).val by omega,
          show (y 0).val < 128 * (Fin.ofNat 32 n).val + 128 by omega⟩
      | ⟨1, _⟩ => exact ⟨Nat.zero_le _, show (y 1).val < 0 + 1 by omega⟩

/-- The result the body leaves: each row as the last store that reaches it wrote it; `x0` is the row of `b`. -/
def outRow (c : Dev nD) (fx : Cont (F := F) c xM) (fw : Cont (F := F) c wM) (x0 : Vec F S1x4096 .f32) : Vec F S4096x1 .f32 :=
  View.canon (outHist c fx fw (k0_pay2 x0) 32)

/-- A load of a whole row reads the contents of the memref. -/
theorem readAt_row {arg2 : Memref sig .tc .vmem S1x4096 .f32} (harg2 : arg2.IsWhole) (x0 : Vec F S1x4096 .f32) :
    View.readAt (Elt F) arg2.view (Rect.unit (s := S1x4096) ![0, 0] S1x4096.size inb_S1x4096_S1x4096_0_0).toLoadRect
      (harg2.unread x0) = x0 := by
  funext x
  rw [harg2.readAt_unread]
  congr 1
  funext a
  apply Fin.ext
  match a with
  | ⟨0, _⟩ => exact (Nat.zero_add _).trans (Nat.one_mul _)
  | ⟨1, _⟩ => exact (Nat.zero_add _).trans (Nat.one_mul _)

/-- What the run leaves in the result's staging memref, whatever was there before. -/
theorem run_out (c : Dev nD) (arg2 : Memref sig .tc .vmem S1x4096 .f32) (harg2 : arg2.IsWhole)
    (arg3 : Memref sig .tc .vmem S4096x1 .f32) (harg3 : arg3.IsWhole)
    (x0 : Vec F S1x4096 .f32) (fx : Cont (F := F) c xM) (fw : Cont (F := F) c wM) (f1 : Cont (F := F) c arg3) :
    arg3.view.read (Elt F) (arg3.view.writes (Elt F) f1 (run c arg2 harg2 arg3 harg3 x0 fx fw).1) = outRow c fx fw x0 := by
  rw [run_pieces, readAt_row]
  exact View.read_writes_eq_canon _ _ _ fun y => outHist_cover c fx fw _ 32 le_rfl y (y 0).isLt

end Cert.KernelIdeal.Hand
end
-- ==== Proof.Launch.lean ====
/- The launch: the rings are cut into slots for the body and put together again after it, the body meets what the pipeline
   asks of it, and so every execution of the program ends with the result the body left, the arguments unchanged and
   every counter at zero. -/
module

public import proofs.«01_k».proof.Proof.Blocks
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A ring held whole is its slots -/

/-- The elements of slot `s` of the ring for `W`. -/
def wPart (s : Fin 8) : Finset S8x128x4096.Idx := (Rect.unit (s := S8x128x4096) ![s.val, 0, 0] S1x128x4096.size (wInb s)).set
/-- Different slots of the ring for `W` share no element, -/
theorem wPart_disjoint (s s' : Fin 8) (h : s ≠ s') : Disjoint (wPart s) (wPart s') :=
  Ring.lead_disjoint (s := S8x128x4096) 0 1 (fun s : Fin 8 => ![s.val, 0, 0]) S1x128x4096.size wInb
    (fun b => (Nat.one_mul _).symm) rfl s s' h
/-- and all of them together are the ring. -/
theorem wPart_cover : Finset.univ.biUnion wPart = Finset.univ :=
  Ring.lead_cover (s := S8x128x4096) 0 1 (fun s : Fin 8 => ![s.val, 0, 0]) S1x128x4096.size wInb
    (fun b => (Nat.one_mul _).symm) (fun b a ha => by fin_cases a <;> first | exact absurd rfl ha | rfl) rfl
    (fun a ha => by fin_cases a <;> first | exact absurd rfl ha | rfl) rfl
/-- The slot's memref covers these elements. -/
theorem wSlot_set (s : Fin 8) : (wSlot s.val (wInb s)).view.set = wPart s :=
  (View.set_reshape _ _).trans (View.set_slice_whole _ _)

/-- The elements of slot `s` of the ring for `x`. -/
def xPart (s : Fin 16) : Finset S16x128x4096.Idx := (Rect.unit (s := S16x128x4096) ![s.val, 0, 0] S1x128x4096.size (xInb s)).set
/-- Different slots of the ring for `x` share no element, -/
theorem xPart_disjoint (s s' : Fin 16) (h : s ≠ s') : Disjoint (xPart s) (xPart s') :=
  Ring.lead_disjoint (s := S16x128x4096) 0 1 (fun s : Fin 16 => ![s.val, 0, 0]) S1x128x4096.size xInb
    (fun b => (Nat.one_mul _).symm) rfl s s' h
/-- and all of them together are the ring. -/
theorem xPart_cover : Finset.univ.biUnion xPart = Finset.univ :=
  Ring.lead_cover (s := S16x128x4096) 0 1 (fun s : Fin 16 => ![s.val, 0, 0]) S1x128x4096.size xInb
    (fun b => (Nat.one_mul _).symm) (fun b a ha => by fin_cases a <;> first | exact absurd rfl ha | rfl) rfl
    (fun a ha => by fin_cases a <;> first | exact absurd rfl ha | rfl) rfl
/-- The slot's memref covers these elements. -/
theorem xSlot_set (s : Fin 16) : (xSlot s.val (xInb s)).view.set = xPart s :=
  (View.set_reshape _ _).trans (View.set_slice_whole _ _)

section
variable (c : Dev nD)

/-- The slots listed are the slots ranged over. -/
theorem wSlots_eq : wSlots (F := F) c = (bigSep Finset.univ fun s : Fin 8 =>
      iprop(∃ f : Buf (Elt F) ((c : Thread nD τ).loc cc0_scratch0), ((c : Thread nD τ).loc cc0_scratch0) ↦[wPart s]{fullShare} f) : sProp 𝕄) := by
  rw [show wSlots (F := F) c = bigSepL [0, 1, 2, 3, 4, 5, 6, 7] (fun s : Fin 8 => room (F := F) c (wSlot s.val (wInb s))) from rfl,
    ← bigSep_univ_eq_bigSepL [0, 1, 2, 3, 4, 5, 6, 7] (by decide) (by decide)]
  exact bigSep_congr fun s _ => congrArg (fun S => (iprop(∃ f : Buf (Elt F) ((c : Thread nD τ).loc cc0_scratch0),
    ((c : Thread nD τ).loc cc0_scratch0) ↦[S]{fullShare} f) : sProp 𝕄)) (wSlot_set s)
/-- The slots listed are the slots ranged over. -/
theorem xSlots_eq : xSlots (F := F) c = (bigSep Finset.univ fun s : Fin 16 =>
      iprop(∃ f : Buf (Elt F) ((c : Thread nD τ).loc cc0_scratch1), ((c : Thread nD τ).loc cc0_scratch1) ↦[xPart s]{fullShare} f) : sProp 𝕄) := by
  rw [show xSlots (F := F) c = bigSepL [0, 1, 2, 3, 4, 5, 6, 7, 8, 9, 10, 11, 12, 13, 14, 15] (fun s : Fin 16 => room (F := F) c (xSlot s.val (xInb s))) from rfl,
    ← bigSep_univ_eq_bigSepL [0, 1, 2, 3, 4, 5, 6, 7, 8, 9, 10, 11, 12, 13, 14, 15] (by decide) (by decide)]
  exact bigSep_congr fun s _ => congrArg (fun S => (iprop(∃ f : Buf (Elt F) ((c : Thread nD τ).loc cc0_scratch1),
    ((c : Thread nD τ).loc cc0_scratch1) ↦[S]{fullShare} f) : sProp 𝕄)) (xSlot_set s)

/-- A buffer held whole at some contents gives each of the blocks it is cut into at some contents. -/
theorem blocks_of_whole {ℓ : Loc nD τ sig} {B : Type} [Fintype B] [DecidableEq B] (I : B → Finset (Idx ℓ))
    (hd : ∀ b b', b ≠ b' → Disjoint (I b) (I b')) (hc : Finset.univ.biUnion I = Finset.univ) :
    iprop(∃ f : Buf (Elt F) ℓ, ℓ ↦{fullShare} f) ⊢ (bigSep Finset.univ (fun b => iprop(∃ f : Buf (Elt F) ℓ, ℓ ↦[I b]{fullShare} f)) : sProp 𝕄) := by
  refine exists_elim fun f => (Entails.of_eq (Ring.pointsTo_blocks I hd hc f)).trans (bigSep_mono fun b _ => ?_)
  exact exists_intro (Φ := fun f : Buf (Elt F) ℓ => (ℓ ↦[I b]{fullShare} f : sProp 𝕄)) f

/-- The ring for `W` held whole gives its slots, -/
theorem wSlots_of_ring : iprop(∃ f : Buf (Elt F) ((c : Thread nD τ).loc cc0_scratch0), ((c : Thread nD τ).loc cc0_scratch0) ↦{fullShare} f)
    ⊢ wSlots (F := F) c := by
  rw [wSlots_eq]
  exact blocks_of_whole (ℓ := (c : Thread nD τ).loc cc0_scratch0) wPart wPart_disjoint wPart_cover
/-- and its slots give it back. -/
theorem ring_of_wSlots : wSlots (F := F) c
    ⊢ iprop(∃ f : Buf (Elt F) ((c : Thread nD τ).loc cc0_scratch0), ((c : Thread nD τ).loc cc0_scratch0) ↦{fullShare} f) := by
  rw [wSlots_eq]
  exact Ring.pointsTo_blocks_join_exists (ℓ := (c : Thread nD τ).loc cc0_scratch0) wPart
    wPart_disjoint wPart_cover (wRing.view.junk)
/-- The ring for `x` held whole gives its slots, -/
theorem xSlots_of_ring : iprop(∃ f : Buf (Elt F) ((c : Thread nD τ).loc cc0_scratch1), ((c : Thread nD τ).loc cc0_scratch1) ↦{fullShare} f)
    ⊢ xSlots (F := F) c := by
  rw [xSlots_eq]
  exact blocks_of_whole (ℓ := (c : Thread nD τ).loc cc0_scratch1) xPart xPart_disjoint xPart_cover
/-- and its slots give it back. -/
theorem ring_of_xSlots : xSlots (F := F) c
    ⊢ iprop(∃ f : Buf (Elt F) ((c : Thread nD τ).loc cc0_scratch1), ((c : Thread nD τ).loc cc0_scratch1) ↦{fullShare} f) := by
  rw [xSlots_eq]
  exact Ring.pointsTo_blocks_join_exists (ℓ := (c : Thread nD τ).loc cc0_scratch1) xPart
    xPart_disjoint xPart_cover (xRing.view.junk)

end

/-! ## What the launch hands the body: its own counters and the two factors -/

variable (m : (ℓ : Loc nD τ sig) → Buf (Elt F) ℓ) (ρ : Dev nD → PrngReg)

/-- The body's own DMA counters: one for each slot of the two rings. -/
abbrev osem : Fin 24 → SemLoc sig := fun j => SemLoc.dma ⟨j.val + 2, by have := j.isLt; show j.val + 2 < 26; omega⟩
/-- They are distinct and none of the pipeline's own. -/
theorem ownSemFacts : Pipeline.OwnSemFacts spec0 osem := by decide

/-- The own counters at zero, listed. -/
theorem ownSems_eq (c : Dev nD) :
    (Pipeline.ownSems0 (Ix := Unit) (Name := ℕ) (U := Pipeline.UD sig nD τ) (Lvl := ℕ) (Val := Elt F) (τ := τ) osem c : sProp 𝕄)
      = cells (F := F) c := by
  rw [Pipeline.ownSems0_eq_of_list c osem [0, 1, 2, 3, 4, 5, 6, 7, 8, 9, 10, 11, 12, 13, 14, 15, 16, 17, 18, 19, 20, 21, 22, 23] (by decide) (by decide)]; rfl

/-- The operands the body copies out of HBM itself. -/
def fromHbm : Finset (Ref sig .tc) := {main_arg0, main_arg1}
/-- No window stages them. -/
theorem fromHbm_sub : fromHbm ⊆ Pipeline.restRefs sig spec0 := by decide
/-- Held together they are the two factors held. -/
theorem fromHbm_eq (c : Dev nD) :
    (bigSep fromHbm (fun b => ((c : Thread nD τ).loc b) ↦{fullShare} V m c b) : sProp 𝕄)
      = iprop(held c xM (V m c main_arg0) ∗ held c wM (V m c main_arg1)) := by
  rw [BI.bigSep_eq_bigSepL_of_eq [main_arg0, main_arg1] (by decide) (by decide)]; simp only [held, View.set_whole]; rfl

/-- The invariant between points, conjunct by conjunct. -/
theorem inv_eq (c : Dev nD) :
    (Pipeline.ΦD osem spec0 fromHbm (V m) c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ d, owns (c : Thread nD τ) sumM fullShare d))
          ∗ (∃ r, prngReg c r) ∗ cells (F := F) c ∗ held c xM (V m c main_arg0) ∗ held c wM (V m c main_arg1)) := by
  rw [Pipeline.ΦD_eq, scopedRest0_eq, ownSems_eq, fromHbm_eq]; simp only [sumM, owns_whole]; try rfl

/-! ## The pipeline's proof data -/

/-- The proof data of the one pipeline on core `c`: the arrays as the region finds them; after the body the row of `b` at
    its block and the result at `outRow`; the invariant above; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outRow c (V m c main_arg0) (V m c main_arg1) (iblk m c 0 t)
  Φ _ := Pipeline.ΦD osem spec0 fromHbm (V m) c
  q _ := fullShare
  owed _ := 0

/-- The arrays of the proof data are the ones the region finds, -/
theorem A_eq (c : Dev nD) (w : Fin cfg0.W) : (dats m 0 c).A w = V m c (Pipeline.arrRef spec0 w) := by
  dsimp only [dats]
/-- the row of `b` is left as it was, -/
theorem after_row (c : Dev nD) (t : Fin cfg0.N) : (dats m 0 c).after 0 t = iblk m c 0 t := by dsimp only [dats]
/-- and the result is left at `outRow`. -/
theorem after_out (c : Dev nD) (t : Fin cfg0.N) :
    (dats m 0 c).after 1 t = outRow c (V m c main_arg0) (V m c main_arg1) (iblk m c 0 t) := by dsimp only [dats]

/-- The row of `b` is in its staging buffer at every point. -/
theorem before_row (c : Dev nD) (t : Fin cfg0.N) (d) : (dats m 0 c).before 0 t d = iblk m c 0 t :=
  ((dats m 0 c).before_in_eq_fetched 0 rfl (fun _ => rfl) (fun _ _ _ => rfl)
      (fun t => by rw [after_row]; unfold Dat.blockOf iblk; rw [A_eq]; try rfl) t d).trans
    (by unfold Dat.fetched Dat.blockOf iblk; rw [A_eq]; try rfl)

/-! ## The body obligation -/

/-- The staging memref of the row of `b` at point `t`. -/
abbrev rowM (t : Fin cfg0.N) : Memref sig .tc .vmem S1x4096 .f32 := win0_0.stage (cfg0.slots t 0)
/-- The result's. -/
abbrev outM (t : Fin cfg0.N) : Memref sig .tc .vmem S4096x1 .f32 := win0_1.stage (cfg0.slots t 1)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (rowM t) fullShare ((dats m 0 c).before 0 t d))
    ∗ (∃ d, owns (c : Thread nD τ) (outM t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (rowM t) fullShare ((dats m 0 c).after 0 t)
    ∗ owns (c : Thread nD τ) (outM t) fullShare ((dats m 0 c).after 1 t))

/-- A memref held is its elements held at some contents that read so. -/
theorem owns_open (c : Dev nD) {S : Shape} (M : Memref sig .tc .vmem S .f32) (X : Vec F S .f32) :
    (owns (c : Thread nD τ) M fullShare X : sProp 𝕄)
      ⊢ iprop(∃ f : Cont (F := F) c M, ⌜M.view.read (Elt F) f = X⌝ ∗ (M.view.loc (c : Thread nD τ) ↦[M.view.set]{fullShare} f)) := .rfl

/-- The body at any point: the invariant gives the rings, cut into slots for the run and put together again after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_row]
  rw [show (dats m 0 c).Φ t.succ = (dats m 0 c).Φ t.castSucc from rfl, after_row, after_out]
  rw [show (dats m 0 c).Φ t.castSucc = Pipeline.ΦD osem spec0 fromHbm (V m) c from rfl, inv_eq]
  unfold Dat.owesAt Pipeline.owesWithin
  rw [show (dats m 0 c).owed t.castSucc = 0 from rfl, show (dats m 0 c).owed t.succ = 0 from rfl]
  iintro ⟨⟨⟨HA, HB, HS⟩, Hg, Hq, Hx, Hw⟩, ⟨%W, -, HW⟩, ⟨%d0, H0⟩, ⟨%d1, H1⟩⟩
  ihave H1' := (owns_open (F := F) c (outM t) _) $$ H1
  icases H1' with ⟨%f1, -, H1⟩
  ihave HA' := (wSlots_of_ring (F := F) c) $$ HA
  ihave HB' := (xSlots_of_ring (F := F) c) $$ HB
  iapply ((run c (rowM t) (hstage0_0 0) (outM t) (hstage0_1 0) (iblk m c 0 t) (V m c main_arg0) (V m c main_arg1)).2 f1 W _)
  isplitl [H0]; · iexact H0
  isplitl [H1]; · iexact H1
  isplitl [HA' HB' HS Hq Hx Hw]
  · isplitl [HS]; · iexact HS
    isplitl [HA']; · iexact HA'
    isplitl [HB']; · iexact HB'
    isplitl [Hq]; · iexact Hq
    isplitl [Hx]; · iexact Hx
    iexact Hw
  isplitl [HW]; · iexact HW
  iintro ⟨H0, H1, ⟨HS, HA, HB, Hq, Hx, Hw⟩, ⟨%W', HW'⟩⟩
  ihave HA' := (ring_of_wSlots (F := F) c) $$ HA
  ihave HB' := (ring_of_xSlots (F := F) c) $$ HB
  isplitl [HA' HB' HS Hg Hq Hx Hw]
  · isplitl [HA' HB' HS]
    · isplitl [HA']; · iexact HA'
      isplitl [HB']; · iexact HB'
      iexact HS
    isplitl [Hg]; · iexact Hg
    isplitl [Hq]; · iexact Hq
    isplitl [Hx]; · iexact Hx
    iexact Hw
  isplitl [HW']
  · iexists W'; isplitr; · ipureintro; exact fun _ _ => Or.inl trivial
    iexact HW'
  isplitl [H0]; · iexact H0
  unfold owns
  iexists _
  isplitr
  · ipureintro; exact run_out c (rowM t) (hstage0_0 0) (outM t) (hstage0_1 0) (iblk m c 0 t) (V m c main_arg0) (V m c main_arg1) f1
  · iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- @main up to the region: the host operation, then the region. -/
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The launch: every fair execution of @main ends with the arrays as the proof data says, every other buffer as the region
    found it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSemFacts fromHbm fromHbm_sub m ρ main
    (hbody := fun c => (body_obligation m c).loose) (hshare := fun c => (dats m 0 c).share_full fun _ => rfl)
    (howed := fun _ _ => rfl) (V := V m) (hmain := hmain m) (hA := A_eq m) (hin := fun _ => .rfl) (hout := fun _ => .rfl)

/-- The arguments end unchanged and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Hand

end
-- ==== Proof.Payloads.lean ====
/- The kernel's computations read at one element, over the extended reals: the sum of `b`, a block's column sums, the
   column sums accumulated, and a block of the result. -/
module

public import proofs.«01_k».proof.Proof.Blocks
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The scalar the kernel makes of the row `v` is the sum of its entries. -/
theorem pay2_eq (v : Vec Ideal S1x4096 .f32) : k0_pay2 v = ∑ k : Fin 4096, v (ix2 0 k) := by
  pointwise [k0_pay2]
  exact Fin.sum_univ_one _

/-- The first block's column sums. -/
theorem pay3_apply (v : Vec Ideal S1x128x4096 .f32) (j : Fin 4096) :
    k0_pay3 v (ix2 0 j) = ∑ i : Fin 128, v (ix3 0 i j) := by
  pointwise [k0_pay3]

/-- A further block's column sums, added to the row kept. -/
theorem pay6_apply (v : Vec Ideal S1x128x4096 .f32) (a : Vec Ideal S1x4096 .f32) (j : Fin 4096) :
    k0_pay6 v a (ix2 0 j) = a (ix2 0 j) + ∑ i : Fin 128, v (ix3 0 i j) := by
  pointwise [k0_pay6]

/-- A row of a block of the result: the block's row times the kept row, summed, and the scalar added. -/
theorem pay81_apply (s : Ideal .f32) (v : Vec Ideal S1x128x4096 .f32) (a : Vec Ideal S1x4096 .f32) (i : Fin 128) :
    k0_pay81 s v a (ix2 i 0) = (∑ j : Fin 4096, v (ix3 0 i j) * a (ix2 0 j)) + s := by
  pointwise [k0_pay81]

end Cert.KernelIdeal.Hand
end
-- ==== Proof.Value.lean ====
/- What the body leaves in the result, over the extended reals: the ring loads are blocks of the factors, the accumulated
   row is the column sums of `W` over all 4096 rows, and row `r` of the result is row `r` of `x` times the column sums,
   summed, plus the sum of `b`. -/
module

public import proofs.«01_k».proof.Proof.Payloads

@[expose] public section

set_option maxRecDepth 16384

noncomputable section

namespace Cert.KernelIdeal.Hand

open Cert.KernelIdeal Cert.KernelIdeal.Gen
open Idealize.ShloMosaic Idealize.ShloMosaic.TcCoe

/-! ## The ring loads -/

section
variable {F : FTy → Type} [FloatOps F]

/-- Row `i` of block `n` of 128 rows, among the 4096 rows. -/
def rowOf (n : Fin 32) (i : Fin 128) : Fin 4096 := ⟨128 * n.val + i.val, by omega⟩

variable (c : Dev nD) (fx : Cont (F := F) c xM) (fw : Cont (F := F) c wM)

/-- A block of `W` at an element. -/
theorem wBlk_apply (n : Fin 32) (i : Fin 128) (j : Fin 4096) : wBlk c fw n (ix2 i j) = fw (ix2 (rowOf n i) j) := by
  show fw _ = fw _
  congr 1; funext a; apply Fin.ext
  match a with
  | ⟨0, _⟩ => show 128 * n.val + 1 * i.val = 128 * n.val + i.val; omega
  | ⟨1, _⟩ => show 0 + 1 * j.val = j.val; omega

/-- A block of `x` at an element. -/
theorem xBlk_apply (n : Fin 32) (i : Fin 128) (j : Fin 4096) : xBlk c fx n (ix2 i j) = fx (ix2 (rowOf n i) j) := by
  show fx _ = fx _
  congr 1; funext a; apply Fin.ext
  match a with
  | ⟨0, _⟩ => show 128 * n.val + 1 * i.val = 128 * n.val + i.val; omega
  | ⟨1, _⟩ => show 0 + 1 * j.val = j.val; omega

/-- The newest copy into a slot of the ring for `W`. -/
theorem wHist_cons (s : Fin 8) (q : ℕ) :
    ∃ L, wHist c fw s q = ⟨Rect.whole S128x4096, wBlk c fw (Fin.ofNat 32 (8 * q + s.val))⟩ :: L := by
  cases q with
  | zero => exact ⟨[], by rw [Nat.mul_zero, Nat.zero_add]; rfl⟩
  | succ q => exact ⟨_, rfl⟩

/-- The newest copy into a slot of the ring for `x`. -/
theorem xHist_cons (s : Fin 16) (q : ℕ) :
    ∃ L, xHist c fx s q = ⟨Rect.whole S128x4096, xBlk c fx (Fin.ofNat 32 (16 * q + s.val))⟩ :: L := by
  cases q with
  | zero => exact ⟨[], by rw [Nat.mul_zero, Nat.zero_add]; rfl⟩
  | succ q => exact ⟨_, rfl⟩

/-- A slot of a ring read as a block of rows, at an element. -/
theorem slab_apply (v : Vec F S1x128x4096 .f32) (i : Fin 128) (j : Fin 4096) :
    shapeCast S128x4096 v shapeCasts_S1x128x4096_S128x4096 (ix2 i j) = v (ix3 0 i j) := by
  pointwise

/-- A load of slot `s` of the ring for `W` in round `q` reads block `8 q + s`. -/
theorem wLoad_apply (s : Fin 8) (q : ℕ) (i : Fin 128) (j : Fin 4096) :
    wLoad c fw s q (ix3 0 i j) = fw (ix2 (rowOf (Fin.ofNat 32 (8 * q + s.val)) i) j) := by
  obtain ⟨L, e⟩ := wHist_cons c fw s q
  refine Eq.trans ?_ (wBlk_apply c fw (Fin.ofNat 32 (8 * q + s.val)) i j)
  refine (slab_apply _ i j).symm.trans ?_
  rw [wLoad, e]
  refine (congrFun (Memref.read_squeeze_slice wRing (Rect.unit (s := S8x128x4096) ![s.val, 0, 0] S1x128x4096.size (wInb s))
    (fun _ => rfl) squeezes_S1x128x4096_S128x4096 shapeCasts_S1x128x4096_S128x4096 _) (ix2 i j)).symm.trans ?_
  exact View.read_writes_cons_hit_of_coords (v := (wSlot s.val (wInb s)).view) _ _ _ _ _ _
    fun a => ((Nat.zero_add _).trans (Nat.one_mul _)).symm

/-- A load of slot `s` of the ring for `x` in round `q` reads block `16 q + s`. -/
theorem xLoad_apply (s : Fin 16) (q : ℕ) (i : Fin 128) (j : Fin 4096) :
    xLoad c fx s q (ix3 0 i j) = fx (ix2 (rowOf (Fin.ofNat 32 (16 * q + s.val)) i) j) := by
  obtain ⟨L, e⟩ := xHist_cons c fx s q
  refine Eq.trans ?_ (xBlk_apply c fx (Fin.ofNat 32 (16 * q + s.val)) i j)
  refine (slab_apply _ i j).symm.trans ?_
  rw [xLoad, e]
  refine (congrFun (Memref.read_squeeze_slice xRing (Rect.unit (s := S16x128x4096) ![s.val, 0, 0] S1x128x4096.size (xInb s))
    (fun _ => rfl) squeezes_S1x128x4096_S128x4096 shapeCasts_S1x128x4096_S128x4096 _) (ix2 i j)).symm.trans ?_
  exact View.read_writes_cons_hit_of_coords (v := (xSlot s.val (xInb s)).view) _ _ _ _ _ _
    fun a => ((Nat.zero_add _).trans (Nat.one_mul _)).symm

/-- The slot block `n` of `W` was copied into holds it when the body loads it. -/
theorem wLoad_block (n : Fin 32) (i : Fin 128) (j : Fin 4096) :
    wLoad c fw (Fin.ofNat 8 n.val) (n.val / 8) (ix3 0 i j) = fw (ix2 (rowOf n i) j) := by
  have e : Fin.ofNat 32 (8 * (n.val / 8) + (Fin.ofNat 8 n.val).val) = n :=
    Fin.ext (show (8 * (n.val / 8) + n.val % 8) % 32 = n.val by omega)
  rw [wLoad_apply, e]

/-- The slot block `n` of `x` was copied into holds it when the body loads it. -/
theorem xLoad_block (n : Fin 32) (i : Fin 128) (j : Fin 4096) :
    xLoad c fx (Fin.ofNat 16 n.val) (n.val / 16) (ix3 0 i j) = fx (ix2 (rowOf n i) j) := by
  have e : Fin.ofNat 32 (16 * (n.val / 16) + (Fin.ofNat 16 n.val).val) = n :=
    Fin.ext (show (16 * (n.val / 16) + n.val % 16) % 32 = n.val by omega)
  rw [xLoad_apply, e]

/-- A load of the accumulated row reads the last store into it. -/
theorem sumLoad_cons (w : Vec F S1x4096 .f32) (L : List (View.Piece (Elt F) S1x4096 .f32)) :
    sumLoad (⟨Rect.unit (s := S1x4096) ![0, 0] S1x4096.size inb_S1x4096_S1x4096_0_0, w⟩ :: L) = w :=
  View.readCov_cons_toLoadRect sumM.view (Rect.unit (s := S1x4096) ![0, 0] S1x4096.size inb_S1x4096_S1x4096_0_0) w L

/-- Each row of the result is as the store of its block wrote it: after `n` stores, row `i` of an earlier block `k` is as that block's
    payload has it. -/
theorem outHist_apply (s : F .f32) (n : ℕ) (hn : n ≤ 32) (k : Fin 32) (hk : k.val < n) (i : Fin 128) :
    View.canon (outHist c fx fw s n) (ix2 (rowOf k i) 0)
      = k0_pay81 s (xLoad c fx (Fin.ofNat 16 k.val) (k.val / 16)) (colSums c fw) (ix2 i 0) := by
  induction n with
  | zero => omega
  | succ n ih =>
    have e : (Fin.ofNat 32 n).val = n := Nat.mod_eq_of_lt (by omega)
    by_cases h : k.val = n
    · subst h
      refine Eq.trans (congrArg _ ?_) (View.canon_cons_emb
        (Rect.unit (s := S4096x1) ![128 * (Fin.ofNat 32 k.val).val, 0] S128x1.size (outInb (Fin.ofNat 32 k.val))) _ _ (ix2 i 0))
      funext a; apply Fin.ext
      match a with
      | ⟨0, _⟩ => show 128 * k.val + i.val = 128 * (Fin.ofNat 32 k.val).val + 1 * i.val; omega
      | ⟨1, _⟩ => rfl
    · refine (View.canon_cons_of_not_mem _ _ fun hm => ?_).trans (ih (by omega) (by omega))
      have h0 := (Rect.mem_set_unit (inb := outInb (Fin.ofNat 32 n))).mp hm 0
      have h1 : 128 * (Fin.ofNat 32 n).val ≤ 128 * k.val + i.val := h0.1
      omega

end

/-! ## Over the extended reals -/

section
variable (c : Dev nD) (fx fw : Vec Ideal S4096x4096 .f32)

/-- The 4096 rows are the 32 blocks' 128 rows each. -/
theorem sum_rows (f : Fin 4096 → EReal) : ∑ n : Fin 32, ∑ i : Fin 128, f (rowOf n i) = ∑ r : Fin 4096, f r := by
  rw [← Fintype.sum_prod_type', ← (finProdFinEquiv (m := 32) (n := 128)).sum_comp f]
  refine Finset.sum_congr rfl fun p _ => congrArg f (Fin.ext ?_)
  show 128 * p.1.val + p.2.val = p.2.val + 128 * p.1.val
  omega

/-- After block `n`, the accumulated row is the column sums of blocks `0, …, n`. -/
theorem sumLoad_apply (n : ℕ) (hn : n < 32) (j : Fin 4096) :
    sumLoad (sumHist c fw n) (ix2 0 j)
      = ∑ k : Fin (n + 1), ∑ i : Fin 128, fw (ix2 (rowOf ⟨k.val, by omega⟩ i) j) := by
  induction n with
  | zero =>
    rw [sumHist, sumLoad_cons, pay3_apply, Fin.sum_univ_one]
    exact Finset.sum_congr rfl fun i _ => wLoad_block c fw 0 i j
  | succ n ih =>
    rw [sumHist, sumLoad_cons, pay6_apply, ih (by omega)]
    refine Eq.trans ?_ (Fin.sum_univ_castSucc fun k : Fin (n + 2) =>
      ∑ i : Fin 128, fw (ix2 (rowOf ⟨k.val, by omega⟩ i) j)).symm
    congr 1
    exact Finset.sum_congr rfl fun i _ => wLoad_block c fw ⟨n + 1, hn⟩ i j

/-- The accumulated row, all blocks summed, is the column sums of `W`. -/
theorem colSums_apply (j : Fin 4096) : colSums c fw (ix2 0 j) = ∑ r : Fin 4096, fw (ix2 r j) := by
  rw [colSums, sumLoad_apply c fw 31 (by omega), ← sum_rows fun r => fw (ix2 r j)]

/-- Row `r` of the result: row `r` of `x` times the column sums of `W`, summed, plus the sum of `b`. -/
theorem outRow_apply (x0 : Vec Ideal S1x4096 .f32) (r : Fin 4096) :
    outRow c fx fw x0 (ix2 r 0)
      = (∑ j : Fin 4096, fx (ix2 r j) * ∑ k : Fin 4096, fw (ix2 k j)) + ∑ k : Fin 4096, x0 (ix2 0 k) := by
  have e : r = rowOf ⟨r.val / 128, by omega⟩ ⟨r.val % 128, by omega⟩ :=
    Fin.ext (show r.val = 128 * (r.val / 128) + r.val % 128 by omega)
  rw [e, outRow, outHist_apply c fx fw _ 32 le_rfl _ (by show r.val / 128 < 32; omega), pay81_apply, pay2_eq]
  congr 1
  exact Finset.sum_congr rfl fun j _ => by rw [xLoad_block, colSums_apply]

end

end Cert.KernelIdeal.Hand
end
-- ==== Proof.Result.lean ====
/- Both results in closed form, over the extended reals: entry `r` is the sum over the columns `j` of `x[r, j]` times the
   sum of column `j` of `W`, plus the sum of `b`. The kernel's result buffer ends with it, and so does the reference's. -/
module

public import proofs.«01_k».proof.Proof.Launch
public import proofs.«01_k».proof.Proof.Value
public import proofs.«01_k».proof.Proof.Gen.ReferenceIdeal.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

/-- The function both programs compute. -/
def closed (x W : Vec Ideal S4096x4096 .f32) (b : Vec Ideal ⟨1, ![4096]⟩ .f32) : Vec Ideal S4096x1 .f32 := fun y =>
  (∑ j : Fin 4096, x (ix2 (y 0) j) * ∑ k : Fin 4096, W (ix2 k j)) + ∑ k : Fin 4096, b (ix1 k)

variable (m : (ℓ : Loc nD τ sig) → Buf (Elt Ideal) ℓ) (ρ : Dev nD → PrngReg)

/-- Every window's block is its whole array. -/
theorem index_eq : ∀ t : Fin cfg0.N, win0_0.index t = ![0, 0] ∧ win0_1.index t = ![0, 0] :=
  (by decide +kernel : ∀ t : Fin grid0.N, _)

/-- A vector as one row, at an element. -/
theorem row_apply (v : Vec Ideal S4096 .f32) (k : Fin 4096) :
    shapeCast S1x4096 v shapeCasts_S4096_S1x4096 (ix2 0 k) = v (ix1 k) := by
  pointwise

/-- The region finds the row of `b` as the host operation before it made it: the vector as one row. -/
theorem row_of_b (c : Dev nD) (k : Fin 4096) :
    (V m c main_v0 : Vec Ideal S1x4096 .f32) (ix2 0 k)
      = (m ((c : Thread nD τ).loc main_arg2) : Vec Ideal S4096 .f32) (ix1 k) := by
  have e : (V m c main_v0 : Vec Ideal S1x4096 .f32)
      = shapeCast S1x4096 (m ((c : Thread nD τ).loc main_arg2) : Vec Ideal S4096 .f32) shapeCasts_S4096_S1x4096 := by
    show StableHlo.after hostOps0 _ _ = _
    simp only [hostOps0]
    after_results
    rfl
  rw [e]
  exact row_apply _ k

/-- The block of the row of `b` the body is handed is that row. -/
theorem iblk_row (c : Dev nD) (k : Fin 4096) :
    (iblk m c 0 t0_0 : Vec Ideal S1x4096 .f32) (ix2 0 k)
      = (m ((c : Thread nD τ).loc main_arg2) : Vec Ideal S4096 .f32) (ix1 k) := by
  have e : (iblk m c 0 t0_0 : Vec Ideal S1x4096 .f32) = V m c main_v0 := by
    blk_ext! [iblk, index_eq t0_0]
  rw [e]
  exact row_of_b m c k

/-- The kernel's result array after the run. -/
theorem result_eq (c : Dev nD) : (dats m 0 c).arrAt 1 cfg0.N
    = closed (m ((c : Thread nD τ).loc main_arg0)) (m ((c : Thread nD τ).loc main_arg1)) (m ((c : Thread nD τ).loc main_arg2)) := by
  refine (dats m 0 c).arrAt_eq_of_after_last 1 t0_0 (by decide +kernel) _ fun j => ?_
  blk_simp
  rw [after_out, V_main_arg0, V_main_arg1]
  idx_vars j
  obtain rfl : j1 = 0 := Subsingleton.elim _ _
  refine (outRow_apply c _ _ _ j0).trans ?_
  exact congrArg (_ + ·) (Finset.sum_congr rfl fun k _ => iblk_row m c k)

/-- The kernel ends with its result at the closed form and its arguments unchanged. -/
theorem run_closed : θ_run defs (onTc (τ := τ) (main (F := Ideal))) ⟨m, fun _ => 0, ρ⟩ (fun r => ∀ c : Dev nD,
      r.2.mem ((c.tc : Thread nD τ).loc main_v1)
        = closed (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1.out_eq c 1).trans (result_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.KernelIdeal.Hand

namespace Cert.ReferenceIdeal.Value

open Cert.ReferenceIdeal Cert.ReferenceIdeal.Gen Idealize.ShloMosaic Idealize.ShloMosaic.TcCoe

/-- The reference's composed term is the closed form. -/
theorem term_eq (x W : FVec Ideal S4096x4096 .f32) (b : FVec Ideal S4096 .f32) :
    broadcastInDim S4096x1 ![0] bcast_S4096_S4096x1_0
      (addf (Host.dotGeneral dot_S4096x4096_S4096_S4096_1_0_0_n_n_n none x
          (Host.reduceAdd W (constant S_ .f32 0x00000000#32) reducesTo_S4096x4096_S4096_d0 h_S_))
        (broadcastInDim S4096 ![] bcast_S_S4096
          (Host.reduceAdd b (constant S_ .f32 0x00000000#32) reducesTo_S4096_S_d0 h_S_)))
      = Cert.KernelIdeal.Hand.closed x W b := by
  funext y
  pointwise [Cert.KernelIdeal.Hand.closed]

end Cert.ReferenceIdeal.Value
end
-- ==== Proof.lean ====
module

public import proofs.«01_k».proof.Defs
public import proofs.«01_k».proof.Proof.Eqv
public import proofs.«01_k».proof.Proof.Launch
public import proofs.«01_k».proof.Proof.Result
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- On words, the kernel runs, its arguments end unchanged and every semaphore counter ends at zero: it is the program
    whose run is proved at any reading of the floats. -/
theorem frame_kernel : Cert.quiescent_Kernel := fun m g _ => by
  rw [main_eq, defs_eq]
  exact Cert.KernelIdeal.Hand.quiescent (F := Bits) m g

/-- The same over the extended reals. -/
theorem frame_kernelIdeal : Cert.quiescent_KernelIdeal := fun m g _ => Cert.KernelIdeal.Hand.quiescent m g

/-- The reference runs, its arguments end unchanged; it has no semaphore. -/
theorem frame_referenceIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The kernel and the reference compute the same result over the extended reals. -/
theorem algebraic : Cert.algebraic_KernelIdeal_ReferenceIdeal := fun m g m' g' _ hag =>
  ⟨fun c => Cert.KernelIdeal.Hand.closed (m ((c.tc : Thread _ _).loc Cert.KernelIdeal.main_arg0))
      (m ((c.tc : Thread _ _).loc Cert.KernelIdeal.main_arg1)) (m ((c.tc : Thread _ _).loc Cert.KernelIdeal.main_arg2)),
    Cert.KernelIdeal.Hand.run_closed m g,
    (θ_run Cert.ReferenceIdeal.defs _ _).mono
      (fun r h c => ⟨(h c).1.trans ((Cert.ReferenceIdeal.Value.term_eq _ _ _).trans (by
        rw [(hag c).1, (hag c).2.1, (hag c).2.2])), (h c).2⟩) (Cert.ReferenceIdeal.Value.run m' g')⟩

/-- Everything claimed of the kernel. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
